-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S352x2x512 Cert.KernelIdeal.S352x1x512
  ∧ IdealRules.bf16_pair.PackStatement Cert.KernelIdeal.S352x512
  ∧ IdealRules.bf16_pair.Statement Cert.KernelIdeal.S352x2x512 Cert.KernelIdeal.S352x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x5632 : Shape := ⟨3, ![192, 1, 5632]⟩
abbrev S1408x8192 : Shape := ⟨2, ![1408, 8192]⟩
abbrev S352x8192 : Shape := ⟨2, ![352, 8192]⟩
abbrev S192x5632 : Shape := ⟨2, ![192, 5632]⟩
abbrev S192x8192 : Shape := ⟨2, ![192, 8192]⟩
abbrev S1408x512 : Shape := ⟨2, ![1408, 512]⟩
abbrev S352x512 : Shape := ⟨2, ![352, 512]⟩
abbrev S192x512 : Shape := ⟨2, ![192, 512]⟩
abbrev S128x512 : Shape := ⟨2, ![128, 512]⟩
abbrev S32x512 : Shape := ⟨2, ![32, 512]⟩
abbrev S1x512 : Shape := ⟨2, ![1, 512]⟩
abbrev S8x512 : Shape := ⟨2, ![8, 512]⟩
abbrev S16x512 : Shape := ⟨2, ![16, 512]⟩
abbrev S192x128 : Shape := ⟨2, ![192, 128]⟩
abbrev S256x512 : Shape := ⟨2, ![256, 512]⟩
abbrev S192x256 : Shape := ⟨2, ![192, 256]⟩

abbrev nBuf : Space → Nat
  | .hbm => 6
  | .vmem => 11
  | .smem => 0
  | _ => 0

abbrev bufTy : (tb : Table) → Fin (tcTables nBuf tb) → BufTy
  | .hbm, ⟨0, _⟩ => ⟨S192x1x5632, .bf16⟩
  | .hbm, ⟨1, _⟩ => ⟨S1408x8192, .i8⟩
  | .hbm, ⟨2, _⟩ => ⟨S352x8192, .bf16⟩
  | .hbm, ⟨3, _⟩ => ⟨S352x8192, .bf16⟩
  | .hbm, ⟨4, _⟩ => ⟨S192x5632, .bf16⟩
  | .hbm, ⟨5, _⟩ => ⟨S192x8192, .bf16⟩
  | .local _ .vmem, ⟨0, _⟩ => ⟨S192x5632, .bf16⟩
  | .local _ .vmem, ⟨1, _⟩ => ⟨S1408x512, .i8⟩
  | .local _ .vmem, ⟨2, _⟩ => ⟨S1408x512, .i8⟩
  | .local _ .vmem, ⟨3, _⟩ => ⟨S352x512, .bf16⟩
  | .local _ .vmem, ⟨4, _⟩ => ⟨S352x512, .bf16⟩
  | .local _ .vmem, ⟨5, _⟩ => ⟨S352x512, .bf16⟩
  | .local _ .vmem, ⟨6, _⟩ => ⟨S352x512, .bf16⟩
  | .local _ .vmem, ⟨7, _⟩ => ⟨S192x512, .bf16⟩
  | .local _ .vmem, ⟨8, _⟩ => ⟨S192x512, .bf16⟩
  | .local _ .vmem, ⟨9, _⟩ => ⟨S352x512, .i32⟩
  | .local _ .vmem, ⟨10, _⟩ => ⟨S352x512, .i32⟩
  | _, _ => ⟨S192x1x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1408x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S352x2x512 : Shape := ⟨3, ![352, 2, 512]⟩
abbrev S352x1x512 : Shape := ⟨3, ![352, 1, 512]⟩
abbrev S1x2x512 : Shape := ⟨3, ![1, 2, 512]⟩
abbrev S1x1x512 : Shape := ⟨3, ![1, 1, 512]⟩
  | .local _ .vmem, ⟨9, _⟩ => ⟨S352x2x512, .bf16⟩
  | .local _ .vmem, ⟨10, _⟩ => ⟨S352x2x512, .bf16⟩
variable {F : FTy → Type} [FloatOps F]
-- ==== ReferenceIdeal.lean ====
abbrev S192x1x5632 : Shape := ⟨3, ![192, 1, 5632]⟩
abbrev S1408x8192 : Shape := ⟨2, ![1408, 8192]⟩
abbrev S352x8192 : Shape := ⟨2, ![352, 8192]⟩
abbrev S_ : Shape := ⟨0, ![]⟩
abbrev S88x8192 : Shape := ⟨2, ![88, 8192]⟩
abbrev S88x16x8192 : Shape := ⟨3, ![88, 16, 8192]⟩
abbrev S192x1x1408 : Shape := ⟨3, ![192, 1, 1408]⟩
abbrev S192x1x8192 : Shape := ⟨3, ![192, 1, 8192]⟩
abbrev S192x8192 : Shape := ⟨2, ![192, 8192]⟩

abbrev nBuf : Space → Nat
  | .hbm => 81
  | .vmem => 0
  | .smem => 0
  | _ => 0

abbrev bufTy : (tb : Table) → Fin (tcTables nBuf tb) → BufTy
  | .hbm, ⟨0, _⟩ => ⟨S192x1x5632, .bf16⟩
  | .hbm, ⟨1, _⟩ => ⟨S1408x8192, .i8⟩
  | .hbm, ⟨2, _⟩ => ⟨S352x8192, .bf16⟩
  | .hbm, ⟨3, _⟩ => ⟨S352x8192, .bf16⟩
  | .hbm, ⟨4, _⟩ => ⟨S1408x8192, .i32⟩
  | .hbm, ⟨5, _⟩ => ⟨S_, .i32⟩
  | .hbm, ⟨6, _⟩ => ⟨S1408x8192, .i32⟩
  | .hbm, ⟨7, _⟩ => ⟨S1408x8192, .i32⟩
  | .hbm, ⟨8, _⟩ => ⟨S_, .i32⟩
  | .hbm, ⟨9, _⟩ => ⟨S1408x8192, .i32⟩
  | .hbm, ⟨10, _⟩ => ⟨S1408x8192, .i32⟩
  | .hbm, ⟨11, _⟩ => ⟨S88x8192, .bf16⟩
  | .hbm, ⟨12, _⟩ => ⟨S88x8192, .bf16⟩
  | .hbm, ⟨13, _⟩ => ⟨S88x16x8192, .bf16⟩
  | .hbm, ⟨14, _⟩ => ⟨S1408x8192, .bf16⟩
  | .hbm, ⟨15, _⟩ => ⟨S88x16x8192, .bf16⟩
  | .hbm, ⟨16, _⟩ => ⟨S1408x8192, .bf16⟩
  | .hbm, ⟨17, _⟩ => ⟨S1408x8192, .bf16⟩
  | .hbm, ⟨18, _⟩ => ⟨S1408x8192, .bf16⟩
  | .hbm, ⟨19, _⟩ => ⟨S1408x8192, .bf16⟩
  | .hbm, ⟨20, _⟩ => ⟨S192x1x1408, .bf16⟩
  | .hbm, ⟨21, _⟩ => ⟨S192x1x8192, .f32⟩
  | .hbm, ⟨22, _⟩ => ⟨S1408x8192, .i32⟩
  | .hbm, ⟨23, _⟩ => ⟨S_, .i32⟩
  | .hbm, ⟨24, _⟩ => ⟨S1408x8192, .i32⟩
  | .hbm, ⟨25, _⟩ => ⟨S1408x8192, .i32⟩
  | .hbm, ⟨26, _⟩ => ⟨S_, .i32⟩
  | .hbm, ⟨27, _⟩ => ⟨S1408x8192, .i32⟩
  | .hbm, ⟨28, _⟩ => ⟨S1408x8192, .i32⟩
  | .hbm, ⟨29, _⟩ => ⟨S88x8192, .bf16⟩
  | .hbm, ⟨30, _⟩ => ⟨S88x8192, .bf16⟩
  | .hbm, ⟨31, _⟩ => ⟨S88x16x8192, .bf16⟩
  | .hbm, ⟨32, _⟩ => ⟨S1408x8192, .bf16⟩
  | .hbm, ⟨33, _⟩ => ⟨S88x16x8192, .bf16⟩
  | .hbm, ⟨34, _⟩ => ⟨S1408x8192, .bf16⟩
  | .hbm, ⟨35, _⟩ => ⟨S1408x8192, .bf16⟩
  | .hbm, ⟨36, _⟩ => ⟨S1408x8192, .bf16⟩
  | .hbm, ⟨37, _⟩ => ⟨S1408x8192, .bf16⟩
  | .hbm, ⟨38, _⟩ => ⟨S192x1x1408, .bf16⟩
  | .hbm, ⟨39, _⟩ => ⟨S192x1x8192, .f32⟩
  | .hbm, ⟨40, _⟩ => ⟨S192x1x8192, .f32⟩
  | .hbm, ⟨41, _⟩ => ⟨S1408x8192, .i32⟩
  | .hbm, ⟨42, _⟩ => ⟨S_, .i32⟩
  | .hbm, ⟨43, _⟩ => ⟨S1408x8192, .i32⟩
  | .hbm, ⟨44, _⟩ => ⟨S1408x8192, .i32⟩
  | .hbm, ⟨45, _⟩ => ⟨S_, .i32⟩
  | .hbm, ⟨46, _⟩ => ⟨S1408x8192, .i32⟩
  | .hbm, ⟨47, _⟩ => ⟨S1408x8192, .i32⟩
  | .hbm, ⟨48, _⟩ => ⟨S88x8192, .bf16⟩
  | .hbm, ⟨49, _⟩ => ⟨S88x8192, .bf16⟩
  | .hbm, ⟨50, _⟩ => ⟨S88x16x8192, .bf16⟩
  | .hbm, ⟨51, _⟩ => ⟨S1408x8192, .bf16⟩
  | .hbm, ⟨52, _⟩ => ⟨S88x16x8192, .bf16⟩
  | .hbm, ⟨53, _⟩ => ⟨S1408x8192, .bf16⟩
  | .hbm, ⟨54, _⟩ => ⟨S1408x8192, .bf16⟩
  | .hbm, ⟨55, _⟩ => ⟨S1408x8192, .bf16⟩
  | .hbm, ⟨56, _⟩ => ⟨S1408x8192, .bf16⟩
  | .hbm, ⟨57, _⟩ => ⟨S192x1x1408, .bf16⟩
  | .hbm, ⟨58, _⟩ => ⟨S192x1x8192, .f32⟩
  | .hbm, ⟨59, _⟩ => ⟨S192x1x8192, .f32⟩
  | .hbm, ⟨60, _⟩ => ⟨S1408x8192, .i32⟩
  | .hbm, ⟨61, _⟩ => ⟨S_, .i32⟩
  | .hbm, ⟨62, _⟩ => ⟨S1408x8192, .i32⟩
  | .hbm, ⟨63, _⟩ => ⟨S1408x8192, .i32⟩
  | .hbm, ⟨64, _⟩ => ⟨S_, .i32⟩
  | .hbm, ⟨65, _⟩ => ⟨S1408x8192, .i32⟩
  | .hbm, ⟨66, _⟩ => ⟨S1408x8192, .i32⟩
  | .hbm, ⟨67, _⟩ => ⟨S88x8192, .bf16⟩
  | .hbm, ⟨68, _⟩ => ⟨S88x8192, .bf16⟩
  | .hbm, ⟨69, _⟩ => ⟨S88x16x8192, .bf16⟩
  | .hbm, ⟨70, _⟩ => ⟨S1408x8192, .bf16⟩
  | .hbm, ⟨71, _⟩ => ⟨S88x16x8192, .bf16⟩
  | .hbm, ⟨72, _⟩ => ⟨S1408x8192, .bf16⟩
  | .hbm, ⟨73, _⟩ => ⟨S1408x8192, .bf16⟩
  | .hbm, ⟨74, _⟩ => ⟨S1408x8192, .bf16⟩
  | .hbm, ⟨75, _⟩ => ⟨S1408x8192, .bf16⟩
  | .hbm, ⟨76, _⟩ => ⟨S192x1x1408, .bf16⟩
  | .hbm, ⟨77, _⟩ => ⟨S192x1x8192, .f32⟩
  | .hbm, ⟨78, _⟩ => ⟨S192x1x8192, .f32⟩
  | .hbm, ⟨79, _⟩ => ⟨S192x1x8192, .bf16⟩
  | .hbm, ⟨80, _⟩ => ⟨S192x8192, .bf16⟩
  | _, _ => ⟨S192x1x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_5 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Proof.Frames.lean ====
import proofs.«01_k».proof.Defs
import proofs.«01_k».proof.Proof.Gen.Kernel
import proofs.«01_k».proof.Proof.Gen.Kernel.Frame
import proofs.«01_k».proof.Proof.Gen.KernelIdeal
import proofs.«01_k».proof.Proof.Gen.KernelIdeal.Frame
import proofs.«01_k».proof.Proof.Gen.ReferenceIdeal
import proofs.«01_k».proof.Proof.Gen.ReferenceIdeal.Run
import Idealize.ShloMosaic.Lib.Quiescent
import Idealize.ShloMosaic.Lib.Bf16PairInverse

noncomputable section

namespace Cert.Proof

open Idealize.ShloMosaic Idealize.SL.Sem

/-- The kernel as compiled terminates, leaves its arguments as they were and every semaphore at zero. -/
theorem kernel_frame : Cert.quiescent_Kernel (hKernel := Cert.Kernel.Gen.facts) :=
  fun m ρ _ => Cert.Kernel.Gen.frame m ρ

/-- So does the kernel read over the extended reals. -/
theorem kernelIdeal_frame : Cert.quiescent_KernelIdeal (hKernelIdeal := Cert.KernelIdeal.Gen.facts) :=
  fun m ρ _ => Cert.KernelIdeal.Gen.frame m ρ

/-- So does the reference, which runs on the host alone and has no semaphore. -/
theorem referenceIdeal_frame : Cert.quiescent_ReferenceIdeal (hReferenceIdeal := Cert.ReferenceIdeal.Gen.facts) :=
  fun m ρ _ => (θ_run _ _ _).mono
    (fun r h => ⟨fun c => (h c).2, sem_eq_zero_of_no_sems rfl r.2⟩) (Cert.ReferenceIdeal.Value.run m ρ)

/-- Each rewrite that reads a word of two bf16 numbers as its two rows is one the library states and proves. -/
theorem preserves : Cert.preserves_Kernel_KernelIdeal :=
  ⟨IdealRules.bf16_pair.bufferStatement _ _, IdealRules.bf16_pair.packStatement _,
    IdealRules.bf16_pair.statement _ _, IdealRules.bf16_pair.statement _ _, IdealRules.bf16_pair.statement _ _⟩

end Cert.Proof

end
-- ==== Proof.Tile.lean ====
import proofs.«01_k».proof.Proof.Gen.KernelIdeal.Value

set_option maxRecDepth 65536

noncomputable section

namespace Cert.KernelIdeal.Value

open Cert.KernelIdeal Cert.KernelIdeal.Gen Idealize.ShloMosaic Idealize.ShloMosaic.TcCoe Idealize.SL.Sem

variable {F : FTy → Type} [FloatOps F]

/-! ## The body of one column tile, written once for every chunk

A CHUNK `q < 44` is 128 rows of the contraction: the field `q / 11` of packed rows `128 (q % 11) …`, the columns
`128 q …` of the activations, and the groups `8 q … 8 q + 7` of the scales and minima. -/

/-- A row of words, each word a number twice, repeated to sixteen rows. -/
def spread (v : Vec F S1x2x512 .bf16) : FVec F S16x512 .bf16 :=
  have lo : FVec F S1x512 .bf16 := shapeCast S1x512 (rowsOfParity 0 S1x1x512 v bitcasts_S1x2x512_w16_S1x1x512_w32) shapeCasts_S1x1x512_S1x512
  have hi : FVec F S1x512 .bf16 := shapeCast S1x512 (rowsOfParity 1 S1x1x512 v bitcasts_S1x2x512_w16_S1x1x512_w32) shapeCasts_S1x1x512_S1x512
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩]
      concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩]
      concatenates_S1x512_S1x512_S1x512_S1x512_S1x512_S1x512_S1x512_S1x512_S8x512_d0)
    bitcasts_S16x512_w16_S8x512_w32

/-- Field `f` of 128 packed rows, unpacked four bytes to a word. -/
def codes (w : Vec F S128x512 .i8) (f : Nat) : FVec F S128x512 .bf16 :=
  sitofp .bf16 (bitcast S128x512 8
    (andi (shrui (bitcast S32x512 32 w bitcasts_S128x512_w8_S32x512_w32) (broadcast S32x512 (BitVec.ofNat 32 (2 * f))) : IVec S32x512 32)
      (broadcast S32x512 50529027#32) : IVec S32x512 32) bitcasts_S32x512_w32_S128x512_w8)

/-- Each group of sixteen rows lies inside a chunk's 128 rows. -/
theorem slices16 : ∀ g : Fin 8, S128x512.Slices ![16 * g.val, 0] S16x512 := by decide

/-- One group of sixteen rows of weights: code times scale plus minimum. -/
def part (cd : FVec F S128x512 .bf16) (g : Fin 8) (s mn : Vec F S1x2x512 .bf16) : FVec F S16x512 .bf16 :=
  addf (mulf (extractStridedSlice S16x512 ![16 * g.val, 0] cd (slices16 g)) (spread s)) (spread mn)

/-- A chunk's packed rows lie inside the block. -/
theorem inbW : ∀ c : Fin 11, ∀ a, (![128 * c.val, 0] : Fin 2 → Nat) a + S128x512.size a ≤ S1408x512.size a := by decide
/-- A chunk's activation columns lie inside the block. -/
theorem inbX : ∀ q : Fin 44, ∀ a, (![0, 128 * q.val] : Fin 2 → Nat) a + S192x128.size a ≤ S192x5632.size a := by decide
/-- A group's row of words lies inside the scratch buffer. -/
theorem inbS : ∀ r : Fin 352, ∀ a, (![r.val, 0, 0] : Fin 3 → Nat) a + S1x2x512.size a ≤ S352x2x512.size a := by decide +kernel

/-- What the body loads: packed rows, activation columns, and rows of words of scales and minima. -/
structure Loads (F : FTy → Type) where
  w : Fin 11 → Vec F S128x512 .i8
  x : Fin 44 → Vec F S192x128 .bf16
  s : Fin 352 → Vec F S1x2x512 .bf16
  m : Fin 352 → Vec F S1x2x512 .bf16

/-- Group `g` of chunk `q`. -/
def chunkPart (L : Loads F) (q : Fin 44) (g : Fin 8) : FVec F S16x512 .bf16 :=
  part (codes (L.w ⟨q.val % 11, Nat.mod_lt _ (by decide)⟩) (q.val / 11)) g
    (L.s ⟨8 * q.val + g.val, by omega⟩) (L.m ⟨8 * q.val + g.val, by omega⟩)

/-- The product over two chunks. -/
def pair (L : Loads F) (qa qb : Fin 44) : FVec F S192x512 .f32 :=
  matmul dot_S192x256_S256x512_S192x512_1_0_0_1_n_n none
    (concatenate S192x256 1 [⟨S192x128, shapeCast S192x128 (L.x qa) shapeCasts_S192x128_S192x128⟩,
      ⟨S192x128, shapeCast S192x128 (L.x qb) shapeCasts_S192x128_S192x128⟩] concatenates_S192x128_S192x128_S192x256_d1)
    (concatenate S256x512 0 [⟨S16x512, chunkPart L qa 0⟩, ⟨S16x512, chunkPart L qa 1⟩, ⟨S16x512, chunkPart L qa 2⟩, ⟨S16x512, chunkPart L qa 3⟩,
      ⟨S16x512, chunkPart L qa 4⟩, ⟨S16x512, chunkPart L qa 5⟩, ⟨S16x512, chunkPart L qa 6⟩, ⟨S16x512, chunkPart L qa 7⟩,
      ⟨S16x512, chunkPart L qb 0⟩, ⟨S16x512, chunkPart L qb 1⟩, ⟨S16x512, chunkPart L qb 2⟩, ⟨S16x512, chunkPart L qb 3⟩,
      ⟨S16x512, chunkPart L qb 4⟩, ⟨S16x512, chunkPart L qb 5⟩, ⟨S16x512, chunkPart L qb 6⟩, ⟨S16x512, chunkPart L qb 7⟩]
      concatenates_S16x512_S16x512_S16x512_S16x512_S16x512_S16x512_S16x512_S16x512_S16x512_S16x512_S16x512_S16x512_S16x512_S16x512_S16x512_S16x512_S256x512_d0)
    (constant S192x512 .f32 0x00000000#32)

/-- The first chunk of step `n`: packed rows `128 (n / 2) …`, fields 0 and 1 at even `n`, fields 2 and 3 at odd. -/
def qa (n : Nat) : Fin 44 := ⟨(22 * (n % 2) + n / 2) % 44, Nat.mod_lt _ (by decide)⟩
/-- The second chunk of step `n`. -/
def qb (n : Nat) : Fin 44 := ⟨(22 * (n % 2) + n / 2 + 11) % 44, Nat.mod_lt _ (by decide)⟩

/-- The running sum after step `n`. -/
def acc (L : Loads F) : Nat → FVec F S192x512 .f32
  | 0 => pair L (qa 0) (qb 0)
  | n + 1 => addf (acc L n) (pair L (qa (n + 1)) (qb (n + 1)))

/-- The tile's result. -/
def tile (L : Loads F) : FVec F S192x512 .bf16 := truncf .bf16 (acc L 21) bitsLt_bf16_f32

/-- What the body's loads read, as the run names them: the input blocks through their rectangles, the scratch words
    through rows of what the body stored. -/
def loads0 (arg1 : Memref sig .tc .vmem S192x5632 .bf16) (harg1 : arg1.IsWhole) (arg2 : Memref sig .tc .vmem S1408x512 .i8) (harg2 : arg2.IsWhole)
    (arg3 : Memref sig .tc .vmem S352x512 .bf16) (harg3 : arg3.IsWhole) (arg4 : Memref sig .tc .vmem S352x512 .bf16) (harg4 : arg4.IsWhole)
    (arg6 arg7 : Memref sig .tc .vmem S352x2x512 .bf16)
    (x0 : Vec F S192x5632 .bf16) (x1 : Vec F S1408x512 .i8) (x2 : Vec F S352x512 .bf16) (x3 : Vec F S352x512 .bf16) : Loads F where
  w c := View.readAt (Elt F) arg2.view (Rect.unit (s := S1408x512) ![128 * c.val, 0] S128x512.size (inbW c)).toLoadRect (harg2.unread x1)
  x q := View.readAt (Elt F) arg1.view (Rect.unit (s := S192x5632) ![0, 128 * q.val] S192x128.size (inbX q)).toLoadRect (harg1.unread x0)
  s r := arg6.view.readCov [⟨Rect.unit ![0, 0, 0] S352x2x512.size inb_S352x2x512_S352x2x512_0_0_0,
      k0_pay3 (View.readAt (Elt F) arg3.view (Rect.unit ![0, 0] S352x512.size inb_S352x512_S352x512_0_0).toLoadRect (harg3.unread x2))⟩]
    (Rect.unit (s := S352x2x512) ![r.val, 0, 0] S1x2x512.size (inbS r)).toLoadRect
  m r := arg7.view.readCov [⟨Rect.unit ![0, 0, 0] S352x2x512.size inb_S352x2x512_S352x2x512_0_0_0,
      k0_pay4 (View.readAt (Elt F) arg4.view (Rect.unit ![0, 0] S352x512.size inb_S352x512_S352x512_0_0).toLoadRect (harg4.unread x3))⟩]
    (Rect.unit (s := S352x2x512) ![r.val, 0, 0] S1x2x512.size (inbS r)).toLoadRect

/-- The zero offset of rank 2, as a constant function. -/
theorem hz : (![0, 0] : Fin 2 → Nat) = fun _ => 0 := funext fun a => by fin_cases a <;> rfl

set_option maxHeartbeats 4000000 in
/-- What the body leaves in the output's staging buffer is the tile of what it loads. -/
theorem out_tile (c : Dev nD) (i : grid0.Coords) (arg1 : Memref sig .tc .vmem S192x5632 .bf16) (harg1 : arg1.IsWhole) (arg2 : Memref sig .tc .vmem S1408x512 .i8) (harg2 : arg2.IsWhole) (arg3 : Memref sig .tc .vmem S352x512 .bf16) (harg3 : arg3.IsWhole) (arg4 : Memref sig .tc .vmem S352x512 .bf16) (harg4 : arg4.IsWhole) (arg5 : Memref sig .tc .vmem S192x512 .bf16) (harg5 : arg5.IsWhole) (arg6 : Memref sig .tc .vmem S352x2x512 .bf16) (harg6 : arg6.IsWhole) (arg7 : Memref sig .tc .vmem S352x2x512 .bf16) (harg7 : arg7.IsWhole)
    (x0 : Vec F S192x5632 .bf16) (x1 : Vec F S1408x512 .i8) (x2 : Vec F S352x512 .bf16) (x3 : Vec F S352x512 .bf16) :
    out0_A_4 c i arg1 harg1 arg2 harg2 arg3 harg3 arg4 harg4 arg5 harg5 arg6 harg6 arg7 harg7 x0 x1 x2 x3
      = tile (loads0 arg1 harg1 arg2 harg2 arg3 harg3 arg4 harg4 arg6 arg7 x0 x1 x2 x3) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  sl_unfold_words
  rw [View.canon_unit_zero hz]
  sl_kernel_rfl

end Cert.KernelIdeal.Value

end
-- ==== Proof.Math.lean ====
import Idealize.ShloMosaic.Lib.Pointwise

noncomputable section

namespace Cert.Proof

open Idealize.ShloMosaic Idealize.ShloMosaic.Pointwise

/-- The `f`-th two-bit field of a packed byte, as a number. -/
def field (b : BitVec 8) (f : Nat) : EReal := (((b.toNat / 4 ^ f % 4 : ℕ) : ℝ) : EReal)

/-- The dequantized weight at row `k` of the contraction and column `n`: the code of field `k / 1408` of packed row `k % 1408`,
    scaled and shifted by the scale and minimum of its group of sixteen rows. -/
def weight (w : (⟨2, ![1408, 8192]⟩ : Shape).Idx → BitVec 8) (s mn : (⟨2, ![352, 8192]⟩ : Shape).Idx → EReal)
    (k : Fin 5632) (n : Fin 8192) : EReal :=
  field (w (ix2 (⟨k.val % 1408, Nat.mod_lt _ (by decide)⟩ : Fin 1408) n)) (k.val / 1408)
    * s (ix2 (⟨k.val / 16, by omega⟩ : Fin 352) n) + mn (ix2 (⟨k.val / 16, by omega⟩ : Fin 352) n)

/-- The linear layer: row `b` of the activations against column `n` of the weights. -/
def linear (x : (⟨3, ![192, 1, 5632]⟩ : Shape).Idx → EReal) (w : (⟨2, ![1408, 8192]⟩ : Shape).Idx → BitVec 8)
    (s mn : (⟨2, ![352, 8192]⟩ : Shape).Idx → EReal) (b : Fin 192) (n : Fin 8192) : EReal :=
  ∑ k : Fin 5632, x (ix3 b (0 : Fin 1) k) * weight w s mn k n

/-- A sum over `a * b` terms, in `a` runs of `b`. -/
theorem sum_runs {M : Type} [AddCommMonoid M] (a b N : Nat) (hN : a * b = N) (f : Fin N → M) :
    ∑ k, f k = ∑ i : Fin a, ∑ j : Fin b, f ⟨b * i.val + j.val, by
      have := i.isLt; have := j.isLt
      calc b * i.val + j.val < b * i.val + b := by omega
        _ = b * (i.val + 1) := by ring
        _ ≤ b * a := Nat.mul_le_mul_left _ (by omega)
        _ = N := by rw [Nat.mul_comm, hN]⟩ := by
  subst hN
  rw [← finProdFinEquiv.sum_comp f, Fintype.sum_prod_type]
  refine Finset.sum_congr rfl fun i _ => Finset.sum_congr rfl fun j _ => congrArg f (Fin.ext ?_)
  exact Nat.add_comm _ _

/-- The host's reading of a field: the byte widened, shifted, masked. -/
theorem host_field (f : Fin 4) (b : BitVec 8) :
    (FloatOps.uitofp (F := Ideal) FTy.bf16 (IntOp.andi (IntOp.shrui ArithUnit.host (BitVec.setWidth 32 b) (BitVec.ofNat 32 (2 * f.val))) 3#32) : EReal)
      = field b f.val := by
  have h : ∀ f : Fin 4, ∀ b : BitVec 8,
      (IntOp.andi (IntOp.shrui ArithUnit.host (BitVec.setWidth 32 b) (BitVec.ofNat 32 (2 * f.val))) 3#32).toNat = b.toNat / 4 ^ f.val % 4 := by
    decide +kernel
  show (((_ : ℕ) : ℝ) : EReal) = _
  rw [h]; rfl

/-- The kernel's reading of a field: the shifted and masked byte, read with its sign. -/
theorem byte_field (f : Fin 4) (b : BitVec 8) :
    (FloatOps.sitofp (F := Ideal) FTy.bf16 ((b >>> (2 * f.val)) &&& 3#8) : EReal) = field b f.val := by
  have h : ∀ f : Fin 4, ∀ b : BitVec 8, ((b >>> (2 * f.val)) &&& 3#8).toInt = ((b.toNat / 4 ^ f.val % 4 : ℕ) : ℤ) := by
    decide +kernel
  show (((_ : ℤ) : ℝ) : EReal) = _
  rw [h, Int.cast_natCast]; rfl

end Cert.Proof

end
-- ==== Proof.Pieces.lean ====
import proofs.«01_k».proof.Proof.Tile
import proofs.«01_k».proof.Proof.Math
import Idealize.ShloMosaic.Lib.Pointwise
import Idealize.ShloMosaic.Lib.BitcastFour

set_option maxRecDepth 65536

noncomputable section

namespace Cert.KernelIdeal.Value

open Cert.KernelIdeal Cert.KernelIdeal.Gen Idealize.ShloMosaic Idealize.ShloMosaic.TcCoe Idealize.SL.Sem
open Idealize.ShloMosaic.Pointwise

/-- Sixteen blocks of sixteen rows, one under the other, at row `k`: block `k / 16`, its row `k % 16`. -/
theorem concat16_apply {α : Type} (p : Fin 16 → S16x512.Idx → α)
    (h) (k : Fin 256) (n : Fin 512) :
    concatenate S256x512 0 [⟨S16x512, p 0⟩, ⟨S16x512, p 1⟩, ⟨S16x512, p 2⟩, ⟨S16x512, p 3⟩, ⟨S16x512, p 4⟩, ⟨S16x512, p 5⟩,
        ⟨S16x512, p 6⟩, ⟨S16x512, p 7⟩, ⟨S16x512, p 8⟩, ⟨S16x512, p 9⟩, ⟨S16x512, p 10⟩, ⟨S16x512, p 11⟩, ⟨S16x512, p 12⟩,
        ⟨S16x512, p 13⟩, ⟨S16x512, p 14⟩, ⟨S16x512, p 15⟩] h (ix2 k n)
      = p ⟨k.val / 16, by omega⟩ (ix2 (⟨k.val % 16, Nat.mod_lt _ (by decide)⟩ : Fin 16) n) := by
  exact concatenate_ofFn_apply (t := S256x512) (s₁ := S16x512) 0 p h rfl 16 rfl (ix2 k n) ⟨k.val / 16, by omega⟩ rfl
    (ix2 (⟨k.val % 16, Nat.mod_lt _ (by decide)⟩ : Fin 16) n) rfl (fun b hb => by
      match b with
      | ⟨0, _⟩ => exact absurd rfl hb
      | ⟨1, _⟩ => rfl)

/-- A row of words whose two halves agree, repeated: sixteen rows of what the halves hold. -/
theorem spread_apply (v : Vec Ideal S1x2x512 .bf16) (a : Fin 512 → EReal) (hv : ∀ p n, v (ix3 (0 : Fin 1) p n) = a n)
    (r : Fin 16) (n : Fin 512) : spread v (ix2 r n) = a n := by
  pointwise [spread]
  simp only [hv, dite_eq_ite, ite_self]

/-- Unpacking four bytes to a word and back: byte by byte, the byte shifted by the field's place and masked to two bits. -/
theorem byte_apply (w : S128x512.Idx → BitVec 8) (f : Fin 4) (r : Fin 128) (n : Fin 512) :
    bitcast S128x512 8
      (andi (shrui (bitcast S32x512 32 w bitcasts_S128x512_w8_S32x512_w32) (broadcast S32x512 (BitVec.ofNat 32 (2 * f.val))) : IVec S32x512 32)
        (broadcast S32x512 50529027#32) : IVec S32x512 32) bitcasts_S32x512_w32_S128x512_w8 (ix2 r n)
      = (w (ix2 r n) >>> (2 * f.val)) &&& 3#8 := by
  refine BitVec.eq_of_getLsbD_eq fun q hq => ?_
  rw [bitcast_getLsbD _ _ _ q hq (by decide)]
  have hr := r.isLt
  have hsrc : ∀ hp, bitcasts_S32x512_w32_S128x512_w8.srcIdx (ix2 r n : S128x512.Idx) ((Shape.row (s := S128x512) (ix2 r n) * 8 + q) / 32) hp
      = ValueIdx.ix2 (⟨r.val / 4, by omega⟩ : Fin 32) n := fun hp => by
    funext c
    match c with
    | ⟨0, _⟩ =>
      refine Fin.ext ((Shape.Bitcasts.srcIdx_row _ _ _ _ ⟨0, Nat.zero_lt_two⟩ rfl).trans ?_)
      show (r.val * 8 + q) / 32 = r.val / 4
      omega
    | ⟨1, _⟩ => exact Fin.ext (Shape.Bitcasts.srcIdx_other _ _ _ _ ⟨1, Nat.one_lt_two⟩ (by show ¬ 1 + 2 = 2; omega))
  rw [hsrc]
  have hmod : (Shape.row (s := S128x512) (ix2 r n) * 8 + q) % 32 = 8 * (r.val % 4) + q := by
    show (r.val * 8 + q) % 32 = _
    omega
  rw [hmod]
  have hsh : (BitVec.ofNat 32 (2 * f.val)).toNat = 2 * f.val := by
    have := f.isLt
    rw [BitVec.toNat_ofNat]; omega
  show (IntOp.shrui ArithUnit.vector (bitcast S32x512 32 w _ _) (BitVec.ofNat 32 (2 * f.val)) &&& 50529027#32).getLsbD (8 * (r.val % 4) + q) = _
  unfold IntOp.shrui
  rw [hsh, if_pos (by have := f.isLt; omega), BitVec.getLsbD_and, BitVec.getLsbD_and]
  have hmask : ∀ a : Fin 4, ∀ q : Fin 8, (50529027#32).getLsbD (8 * a.val + q.val) = (3#8).getLsbD q.val := by decide
  rw [hmask ⟨r.val % 4, Nat.mod_lt _ (by decide)⟩ ⟨q, hq⟩]
  by_cases hq2 : q < 2
  · have hf := f.isLt
    rw [BitVec.ushiftRight_eq', hsh, BitVec.getLsbD_ushiftRight, BitVec.getLsbD_ushiftRight]
    rw [bitcast_8_32_getLsbD_ix2 w _ _ n _ (by omega) r (by show r.val = 4 * (r.val / 4) + _; omega)]
    have e : (2 * f.val + (8 * (r.val % 4) + q)) % 8 = 2 * f.val + q := by omega
    rw [e]; rfl
  · have h3 : ∀ q : Fin 8, ¬ q.val < 2 → (3#8).getLsbD q.val = false := by decide
    rw [show (3#8).getLsbD q = false from h3 ⟨q, hq⟩ hq2, Bool.and_false, Bool.and_false]

/-- A field of the packed rows, as numbers. -/
theorem codes_apply (w : Vec Ideal S128x512 .i8) (f : Fin 4) (r : Fin 128) (n : Fin 512) :
    codes (F := Ideal) w f.val (ix2 r n) = Cert.Proof.field (w (ix2 r n)) f.val :=
  (congrArg (FloatOps.sitofp (F := Ideal) FTy.bf16) (byte_apply w f r n)).trans (Cert.Proof.byte_field f _)

/-- A group of weights at an element: code times scale plus minimum. -/
theorem part_apply (cd : FVec Ideal S128x512 .bf16) (g : Fin 8) (s mn : Vec Ideal S1x2x512 .bf16) (r : Fin 16) (n : Fin 512) :
    part cd g s mn (ix2 r n) = cd (ix2 (⟨16 * g.val + r.val, by omega⟩ : Fin 128) n) * spread s (ix2 r n) + spread mn (ix2 r n) := by
  pointwise [part]

/-- What the loads hold: the columns of tile `T` of the packed rows, the scales and the minima, and the activations. -/
structure Loads.Reads (L : Loads Ideal) (x : (⟨3, ![192, 1, 5632]⟩ : Shape).Idx → EReal) (w : (⟨2, ![1408, 8192]⟩ : Shape).Idx → BitVec 8)
    (s mn : (⟨2, ![352, 8192]⟩ : Shape).Idx → EReal) (col : Fin 512 → Fin 8192) : Prop where
  w : ∀ c r n, L.w c (ix2 r n) = w (ix2 (⟨128 * c.val + r.val, by omega⟩ : Fin 1408) (col n))
  x : ∀ q b r, L.x q (ix2 b r) = x (ix3 b (0 : Fin 1) (⟨128 * q.val + r.val, by omega⟩ : Fin 5632))
  s : ∀ r p n, L.s r (ix3 (0 : Fin 1) p n) = s (ix2 r (col n))
  m : ∀ r p n, L.m r (ix3 (0 : Fin 1) p n) = mn (ix2 r (col n))

section
variable {L : Loads Ideal} {x : (⟨3, ![192, 1, 5632]⟩ : Shape).Idx → EReal} {w : (⟨2, ![1408, 8192]⟩ : Shape).Idx → BitVec 8}
variable {s mn : (⟨2, ![352, 8192]⟩ : Shape).Idx → EReal} {col : Fin 512 → Fin 8192}

open Cert.Proof (field weight linear sum_runs)

/-- Group `g` of chunk `q` holds rows `128 q + 16 g …` of the dequantized weights. -/
theorem chunkPart_apply (hL : L.Reads x w s mn col) (q : Fin 44) (g : Fin 8) (r : Fin 16) (n : Fin 512) :
    chunkPart L q g (ix2 r n) = weight w s mn ⟨128 * q.val + (16 * g.val + r.val), by omega⟩ (col n) := by
  have hq := q.isLt
  have hg := g.isLt
  have hr := r.isLt
  unfold chunkPart weight
  rw [part_apply, spread_apply _ _ (hL.s _), spread_apply _ _ (hL.m _),
    codes_apply _ (⟨q.val / 11, by omega⟩ : Fin 4), hL.w]
  have e1 : ∀ h h', (⟨128 * (q.val % 11) + (16 * g.val + r.val), h⟩ : Fin 1408) = ⟨(128 * q.val + (16 * g.val + r.val)) % 1408, h'⟩ :=
    fun _ _ => Fin.ext (by show 128 * (q.val % 11) + (16 * g.val + r.val) = (128 * q.val + (16 * g.val + r.val)) % 1408; omega)
  have e2 : q.val / 11 = (128 * q.val + (16 * g.val + r.val)) / 1408 := by omega
  have e3 : ∀ h h', (⟨8 * q.val + g.val, h⟩ : Fin 352) = ⟨(128 * q.val + (16 * g.val + r.val)) / 16, h'⟩ :=
    fun _ _ => Fin.ext (by show 8 * q.val + g.val = (128 * q.val + (16 * g.val + r.val)) / 16; omega)
  simp only [e1 _ (Nat.mod_lt _ (by decide)), e3 _ (by omega), ← e2]

/-- The two chunks of a product by their sixteen blocks. -/
def block (L : Loads Ideal) (qa qb : Fin 44) (t : Fin 16) : FVec Ideal S16x512 .bf16 :=
  chunkPart L (if t.val < 8 then qa else qb) ⟨t.val % 8, Nat.mod_lt _ (by decide)⟩

/-- One chunk's share of an output element. -/
def share (x : (⟨3, ![192, 1, 5632]⟩ : Shape).Idx → EReal) (w : (⟨2, ![1408, 8192]⟩ : Shape).Idx → BitVec 8)
    (s mn : (⟨2, ![352, 8192]⟩ : Shape).Idx → EReal) (b : Fin 192) (n : Fin 8192) (q : Fin 44) : EReal :=
  ∑ r : Fin 128, x (ix3 b (0 : Fin 1) (⟨128 * q.val + r.val, by omega⟩ : Fin 5632)) * weight w s mn ⟨128 * q.val + r.val, by omega⟩ n

/-- A product over two chunks is the sum of their shares. -/
theorem pair_apply (hL : L.Reads x w s mn col) (qa qb : Fin 44) (b : Fin 192) (n : Fin 512) :
    pair L qa qb (ix2 b n) = share x w s mn b (col n) qa + share x w s mn b (col n) qb := by
  have h16 : ∀ h k, concatenate S256x512 0 [⟨S16x512, chunkPart L qa 0⟩, ⟨S16x512, chunkPart L qa 1⟩, ⟨S16x512, chunkPart L qa 2⟩, ⟨S16x512, chunkPart L qa 3⟩,
      ⟨S16x512, chunkPart L qa 4⟩, ⟨S16x512, chunkPart L qa 5⟩, ⟨S16x512, chunkPart L qa 6⟩, ⟨S16x512, chunkPart L qa 7⟩,
      ⟨S16x512, chunkPart L qb 0⟩, ⟨S16x512, chunkPart L qb 1⟩, ⟨S16x512, chunkPart L qb 2⟩, ⟨S16x512, chunkPart L qb 3⟩,
      ⟨S16x512, chunkPart L qb 4⟩, ⟨S16x512, chunkPart L qb 5⟩, ⟨S16x512, chunkPart L qb 6⟩, ⟨S16x512, chunkPart L qb 7⟩] h (ix2 k n)
      = block L qa qb ⟨k.val / 16, by omega⟩ (ix2 (⟨k.val % 16, Nat.mod_lt _ (by decide)⟩ : Fin 16) n) :=
    fun h k => concat16_apply (block L qa qb) h k n
  unfold pair
  generalize hW : concatenate S256x512 0 _ _ = W at *
  have hWk : ∀ k, W (ix2 k n) = _ := fun k => (congrFun hW.symm (ix2 k n)).trans (h16 _ k)
  have hA : ∀ (r : Fin 128) h h', W (ix2 (⟨r.val, h⟩ : Fin 256) n) = weight w s mn ⟨128 * qa.val + r.val, h'⟩ (col n) := fun r h h' => by
    have hr := r.isLt
    rw [hWk]
    unfold block
    rw [if_pos (show r.val / 16 < 8 by omega), chunkPart_apply hL]
    exact congrArg (fun k => weight w s mn k (col n)) (Fin.ext (by
      show 128 * qa.val + (16 * (r.val / 16 % 8) + r.val % 16) = 128 * qa.val + r.val; omega))
  have hB : ∀ (r : Fin 128) h h', W (ix2 (⟨128 + r.val, h⟩ : Fin 256) n) = weight w s mn ⟨128 * qb.val + r.val, h'⟩ (col n) := fun r h h' => by
    have hr := r.isLt
    rw [hWk]
    unfold block
    rw [if_neg (show ¬ (128 + r.val) / 16 < 8 by omega), chunkPart_apply hL]
    exact congrArg (fun k => weight w s mn k (col n)) (Fin.ext (by
      show 128 * qb.val + (16 * ((128 + r.val) / 16 % 8) + (128 + r.val) % 16) = 128 * qb.val + r.val; omega))
  pointwise
  unfold share
  exact congrArg₂ (· + ·)
    (Finset.sum_congr rfl fun r _ => congrArg₂ (· * ·) (hL.x qa b r) (hA r _ _))
    (Finset.sum_congr rfl fun r _ => congrArg₂ (· * ·) (hL.x qb b r) (hB r _ _))

/-- The running sum is the sum of the shares of the chunks met. -/
theorem acc_apply (hL : L.Reads x w s mn col) (b : Fin 192) (n : Fin 512) (N : Nat) :
    acc L N (ix2 b n) = ∑ i : Fin (N + 1), (share x w s mn b (col n) (qa i.val) + share x w s mn b (col n) (qb i.val)) := by
  induction N with
  | zero =>
    rw [Fin.sum_univ_one]
    exact pair_apply hL (qa 0) (qb 0) b n
  | succ N ih =>
    rw [Fin.sum_univ_castSucc]
    exact congrArg₂ (· + ·) ih (pair_apply hL (qa (N + 1)) (qb (N + 1)) b n)

/-- The steps meet every chunk once. -/
theorem sum_steps (f : Fin 44 → EReal) : ∑ i : Fin 22, (f (qa i.val) + f (qb i.val)) = ∑ q, f q := by
  have hb : Function.Bijective (fun p : Fin 22 × Fin 2 => if p.2 = 0 then qa p.1.val else qb p.1.val) := by decide +kernel
  rw [← Fintype.sum_bijective _ hb (fun p => f (if p.2 = 0 then qa p.1.val else qb p.1.val)) f (fun _ => rfl), Fintype.sum_prod_type]
  refine Finset.sum_congr rfl fun i _ => ?_
  rw [Fin.sum_univ_two]; rfl

/-- The tile holds the linear layer. -/
theorem tile_apply (hL : L.Reads x w s mn col) (b : Fin 192) (n : Fin 512) : tile L (ix2 b n) = linear x w s mn b (col n) := by
  refine (acc_apply hL b n 21).trans ((sum_steps _).trans ?_)
  unfold linear share
  rw [sum_runs 44 128 5632 rfl]

end

end Cert.KernelIdeal.Value

end
-- ==== Proof.Result.lean ====
import proofs.«01_k».proof.Proof.Pieces
import Idealize.ShloMosaic.Lib.Pipeline.ValueKit
import Idealize.ShloMosaic.Lib.Claim

set_option maxRecDepth 65536

noncomputable section

namespace Cert.KernelIdeal.Value

open Cert.KernelIdeal Cert.KernelIdeal.Gen Idealize.ShloMosaic Idealize.ShloMosaic.TcCoe Idealize.SL.Sem
open Idealize.ShloMosaic.Pointwise

/-- Where each window's block lies: the activations whole, every other array's column tile `t`. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

variable (m : (ℓ : Loc nD τ sig) → Buf (Elt Ideal) ℓ)

/-- Column `n` of tile `t`. -/
def col (t : Fin cfg0.N) (n : Fin 512) : Fin 8192 := ⟨512 * t.val + n.val, by have : t.val < 16 := t.isLt; omega⟩

/-- The activations' block at every point is the activations, their unit axis dropped. -/
theorem iblk0_apply (c : Dev nD) (t : Fin cfg0.N) (b : Fin 192) (k : Fin 5632) :
    iblk m c 0 t (ix2 b k) = m ((c : Thread nD τ).loc main_arg0) (ix3 b (0 : Fin 1) k) := by
  blk_ext! [iblk, V, idx t]

/-- The packed weights' block at point `t` is their column tile `t`. -/
theorem iblk1_apply (c : Dev nD) (t : Fin cfg0.N) (r : Fin 1408) (n : Fin 512) :
    iblk m c 1 t (ix2 r n) = m ((c : Thread nD τ).loc main_arg1) (ix2 r (col t n)) := by
  blk_ext [iblk, V, idx t, col]

/-- The scales' block at point `t` is their column tile `t`. -/
theorem iblk2_apply (c : Dev nD) (t : Fin cfg0.N) (r : Fin 352) (n : Fin 512) :
    iblk m c 2 t (ix2 r n) = m ((c : Thread nD τ).loc main_arg2) (ix2 r (col t n)) := by
  blk_ext [iblk, V, idx t, col]

/-- The minima's block at point `t` is their column tile `t`. -/
theorem iblk3_apply (c : Dev nD) (t : Fin cfg0.N) (r : Fin 352) (n : Fin 512) :
    iblk m c 3 t (ix2 r n) = m ((c : Thread nD τ).loc main_arg3) (ix2 r (col t n)) := by
  blk_ext [iblk, V, idx t, col]

/-- Each number doubled into a word and the words laid down, read back: the number, in both halves. -/
theorem pay3_apply (v : Vec Ideal S352x512 .bf16) (r : Fin 352) (p : Fin 2) (n : Fin 512) : k0_pay3 v (ix3 r p n) = v (ix2 r n) := by
  pointwise [k0_pay3]
  rw [ite_self]
/-- The same for the minima. -/
theorem pay4_apply (v : Vec Ideal S352x512 .bf16) (r : Fin 352) (p : Fin 2) (n : Fin 512) : k0_pay4 v (ix3 r p n) = v (ix2 r n) := by
  pointwise [k0_pay4]
  rw [ite_self]

/-- The zero offset of rank 3, as a constant function. -/
theorem hz3 : (![0, 0, 0] : Fin 3 → Nat) = fun _ => 0 := funext fun a => by fin_cases a <;> rfl

/-- A row of words read back out of the scratch buffer one store filled. -/
theorem readCov_apply (v : Memref sig .tc .vmem S352x2x512 .bf16) (P : Vec Ideal S352x2x512 .bf16) (r : Fin 352) (p : Fin 2) (n : Fin 512) :
    v.view.readCov [⟨Rect.unit ![0, 0, 0] S352x2x512.size inb_S352x2x512_S352x2x512_0_0_0, P⟩]
      (Rect.unit (s := S352x2x512) ![r.val, 0, 0] S1x2x512.size (inbS r)).toLoadRect (ix3 (0 : Fin 1) p n) = P (ix3 r p n) := by
  rw [View.readCov_eq_canon', View.canon_unit_zero hz3]
  pointwise

open Cert.Proof (linear)

/-- What the body loads, whatever the buffers: the input blocks' rows and columns, and in both halves of a word the scale
    (the minimum) it was made from. -/
theorem loads_apply (arg1 : Memref sig .tc .vmem S192x5632 .bf16) (harg1 : arg1.IsWhole) (arg2 : Memref sig .tc .vmem S1408x512 .i8) (harg2 : arg2.IsWhole)
    (arg3 : Memref sig .tc .vmem S352x512 .bf16) (harg3 : arg3.IsWhole) (arg4 : Memref sig .tc .vmem S352x512 .bf16) (harg4 : arg4.IsWhole)
    (arg6 arg7 : Memref sig .tc .vmem S352x2x512 .bf16)
    (x0 : Vec Ideal S192x5632 .bf16) (x1 : Vec Ideal S1408x512 .i8) (x2 : Vec Ideal S352x512 .bf16) (x3 : Vec Ideal S352x512 .bf16) :
    (∀ c r n, (loads0 arg1 harg1 arg2 harg2 arg3 harg3 arg4 harg4 arg6 arg7 x0 x1 x2 x3).w c (ix2 r n)
        = x1 (ix2 (⟨128 * c.val + r.val, by omega⟩ : Fin 1408) n))
    ∧ (∀ q b r, (loads0 arg1 harg1 arg2 harg2 arg3 harg3 arg4 harg4 arg6 arg7 x0 x1 x2 x3).x q (ix2 b r)
        = x0 (ix2 b (⟨128 * q.val + r.val, by omega⟩ : Fin 5632)))
    ∧ (∀ r p n, (loads0 arg1 harg1 arg2 harg2 arg3 harg3 arg4 harg4 arg6 arg7 x0 x1 x2 x3).s r (ix3 (0 : Fin 1) p n) = x2 (ix2 r n))
    ∧ (∀ r p n, (loads0 arg1 harg1 arg2 harg2 arg3 harg3 arg4 harg4 arg6 arg7 x0 x1 x2 x3).m r (ix3 (0 : Fin 1) p n) = x3 (ix2 r n)) := by
  unfold loads0
  dsimp only
  refine ⟨fun c r n => ?_, fun q b r => ?_, fun r p n => ?_, fun r p n => ?_⟩
  · rw [View.readAt_eq_ld, Memref.IsWhole.read_unread]
    pointwise
  · rw [View.readAt_eq_ld, Memref.IsWhole.read_unread]
    pointwise
  · rw [readCov_apply, pay3_apply, View.readAt_eq_ld, Memref.IsWhole.read_unread, View.ld_unit_zero hz]
  · rw [readCov_apply, pay4_apply, View.readAt_eq_ld, Memref.IsWhole.read_unread, View.ld_unit_zero hz]

/-- What the body loads at point `t`: the arguments' column tile `t`. -/
theorem loads_reads (c : Dev nD) (t : Fin cfg0.N) :
    (loads0 (F := Ideal) (ms0_0 t) (hs0_0 t) (ms0_1 t) (hs0_1 t) (ms0_2 t) (hs0_2 t) (ms0_3 t) (hs0_3 t) scM0_0 scM0_1
      (iblk m c 0 t) (iblk m c 1 t) (iblk m c 2 t) (iblk m c 3 t)).Reads
      (m ((c : Thread nD τ).loc main_arg0)) (m ((c : Thread nD τ).loc main_arg1)) (m ((c : Thread nD τ).loc main_arg2))
      (m ((c : Thread nD τ).loc main_arg3)) (col t) :=
  have h := loads_apply (ms0_0 t) (hs0_0 t) (ms0_1 t) (hs0_1 t) (ms0_2 t) (hs0_2 t) (ms0_3 t) (hs0_3 t) scM0_0 scM0_1
    (iblk m c 0 t) (iblk m c 1 t) (iblk m c 2 t) (iblk m c 3 t)
  { w := fun q r n => (h.1 q r n).trans (iblk1_apply m c t _ _)
    x := fun q b r => (h.2.1 q b r).trans (iblk0_apply m c t _ _)
    s := fun r p n => (h.2.2.1 r p n).trans (iblk2_apply m c t _ _)
    m := fun r p n => (h.2.2.2 r p n).trans (iblk3_apply m c t _ _) }

/-- The output array after the run holds the linear layer of the arguments. -/
theorem final (c : Dev nD) (G : S192x8192.Idx → EReal)
    (hG : ∀ b n, G (ix2 b n) = linear (m ((c : Thread nD τ).loc main_arg0)) (m ((c : Thread nD τ).loc main_arg1)) (m ((c : Thread nD τ).loc main_arg2))
      (m ((c : Thread nD τ).loc main_arg3)) b n) :
    (dats m 0 c).arrAt 4 cfg0.N = G := by
  refine (dats m 0 c).arrAt_eq_of_covers 4 _ (by decide +kernel) fun t hf y => ?_
  blk_simp
  rw [after0_4]
  unfold outsAt0
  rw [out_tile]
  have key : ∀ y : S192x512.Idx, tile (loads0 (F := Ideal) (ms0_0 t) (hs0_0 t) (ms0_1 t) (hs0_1 t) (ms0_2 t) (hs0_2 t) (ms0_3 t) (hs0_3 t) scM0_0 scM0_1
      (iblk m c 0 t) (iblk m c 1 t) (iblk m c 2 t) (iblk m c 3 t)) y = G ((win0_4.blk t).view.emb y) := fun y => by
    obtain ⟨b, n, rfl⟩ : ∃ (b : Fin 192) (n : Fin 512), y = ix2 b n := ⟨y 0, y 1, funext fun a => by
      match a with
      | ⟨0, _⟩ => rfl
      | ⟨1, _⟩ => rfl⟩
    have e : (win0_4.blk t).view.emb (ix2 b n) = (ix2 b (col t n) : S192x8192.Idx) := by blk_ext [idx t, col]
    rw [e, hG]
    exact tile_apply (loads_reads m c t) b n
  exact key y

end Cert.KernelIdeal.Value

end
-- ==== Proof.Ref.lean ====
import proofs.«01_k».proof.Proof.Gen.ReferenceIdeal
import proofs.«01_k».proof.Proof.Gen.ReferenceIdeal.Run
import proofs.«01_k».proof.Proof.Math
import Idealize.ShloMosaic.Lib.Pointwise

set_option maxRecDepth 65536

noncomputable section

namespace Cert.ReferenceIdeal.Value

open Cert.ReferenceIdeal Cert.ReferenceIdeal.Gen Idealize.ShloMosaic Idealize.ShloMosaic.TcCoe Idealize.SL.Sem
open Idealize.ShloMosaic.Pointwise
open Cert.Proof (field weight linear sum_runs host_field)

/-- The reference's result as a function of its arguments. -/
def result (x : FVec Ideal S192x1x5632 .bf16) (w : IVec S1408x8192 8) (s mn : FVec Ideal S352x8192 .bf16) : FVec Ideal S192x8192 .bf16 :=
  shapeCast _ (truncf .bf16 (addf (addf (addf (Host.dotGeneral dot_S192x1x1408_S1408x8192_S192x1x8192_2_0_01_1_n_n none (extractStridedSlice S192x1x1408 ![0, 0, 0] x slices_S192x1x5632_S192x1x1408_0_0_0) (addf (mulf (uitofp .bf16 (andi (Host.shrui (extui 32 w natLt_8_32) (broadcastInDim S1408x8192 ![] bcast_S_S1408x8192 (constantI S_ 32 0#32))) (broadcastInDim S1408x8192 ![] bcast_S_S1408x8192 (constantI S_ 32 3#32)))) (shapeCast _ (broadcastInDim S88x16x8192 ![0, 2] bcast_S88x8192_S88x16x8192_0_2 (extractStridedSlice S88x8192 ![0, 0] s slices_S352x8192_S88x8192_0_0)) shapeCasts_S88x16x8192_S1408x8192)) (shapeCast _ (broadcastInDim S88x16x8192 ![0, 2] bcast_S88x8192_S88x16x8192_0_2 (extractStridedSlice S88x8192 ![0, 0] mn slices_S352x8192_S88x8192_0_0)) shapeCasts_S88x16x8192_S1408x8192))) (Host.dotGeneral dot_S192x1x1408_S1408x8192_S192x1x8192_2_0_01_1_n_n none (extractStridedSlice S192x1x1408 ![0, 0, 1408] x slices_S192x1x5632_S192x1x1408_0_0_1408) (addf (mulf (uitofp .bf16 (andi (Host.shrui (extui 32 w natLt_8_32) (broadcastInDim S1408x8192 ![] bcast_S_S1408x8192 (constantI S_ 32 2#32))) (broadcastInDim S1408x8192 ![] bcast_S_S1408x8192 (constantI S_ 32 3#32)))) (shapeCast _ (broadcastInDim S88x16x8192 ![0, 2] bcast_S88x8192_S88x16x8192_0_2 (extractStridedSlice S88x8192 ![88, 0] s slices_S352x8192_S88x8192_88_0)) shapeCasts_S88x16x8192_S1408x8192)) (shapeCast _ (broadcastInDim S88x16x8192 ![0, 2] bcast_S88x8192_S88x16x8192_0_2 (extractStridedSlice S88x8192 ![88, 0] mn slices_S352x8192_S88x8192_88_0)) shapeCasts_S88x16x8192_S1408x8192)))) (Host.dotGeneral dot_S192x1x1408_S1408x8192_S192x1x8192_2_0_01_1_n_n none (extractStridedSlice S192x1x1408 ![0, 0, 2816] x slices_S192x1x5632_S192x1x1408_0_0_2816) (addf (mulf (uitofp .bf16 (andi (Host.shrui (extui 32 w natLt_8_32) (broadcastInDim S1408x8192 ![] bcast_S_S1408x8192 (constantI S_ 32 4#32))) (broadcastInDim S1408x8192 ![] bcast_S_S1408x8192 (constantI S_ 32 3#32)))) (shapeCast _ (broadcastInDim S88x16x8192 ![0, 2] bcast_S88x8192_S88x16x8192_0_2 (extractStridedSlice S88x8192 ![176, 0] s slices_S352x8192_S88x8192_176_0)) shapeCasts_S88x16x8192_S1408x8192)) (shapeCast _ (broadcastInDim S88x16x8192 ![0, 2] bcast_S88x8192_S88x16x8192_0_2 (extractStridedSlice S88x8192 ![176, 0] mn slices_S352x8192_S88x8192_176_0)) shapeCasts_S88x16x8192_S1408x8192)))) (Host.dotGeneral dot_S192x1x1408_S1408x8192_S192x1x8192_2_0_01_1_n_n none (extractStridedSlice S192x1x1408 ![0, 0, 4224] x slices_S192x1x5632_S192x1x1408_0_0_4224) (addf (mulf (uitofp .bf16 (andi (Host.shrui (extui 32 w natLt_8_32) (broadcastInDim S1408x8192 ![] bcast_S_S1408x8192 (constantI S_ 32 6#32))) (broadcastInDim S1408x8192 ![] bcast_S_S1408x8192 (constantI S_ 32 3#32)))) (shapeCast _ (broadcastInDim S88x16x8192 ![0, 2] bcast_S88x8192_S88x16x8192_0_2 (extractStridedSlice S88x8192 ![264, 0] s slices_S352x8192_S88x8192_264_0)) shapeCasts_S88x16x8192_S1408x8192)) (shapeCast _ (broadcastInDim S88x16x8192 ![0, 2] bcast_S88x8192_S88x16x8192_0_2 (extractStridedSlice S88x8192 ![264, 0] mn slices_S352x8192_S88x8192_264_0)) shapeCasts_S88x16x8192_S1408x8192)))) bitsLt_bf16_f32) shapeCasts_S192x1x8192_S192x8192

/-- The reference's sum over one field's rows is the linear layer's over those rows, wherever its slices say the activations
    and the groups lie. -/
theorem run_apply (x : FVec Ideal S192x1x5632 .bf16) (w : IVec S1408x8192 8) (s mn : FVec Ideal S352x8192 .bf16) (b : Fin 192) (n : Fin 8192)
    (f : Fin 4) (kx : Fin 1408 → Fin 5632) (g : Fin 1408 → Fin 352) (hk : ∀ r, (kx r).val = 1408 * f.val + r.val)
    (hg : ∀ r, (g r).val = 88 * f.val + r.val / 16) :
    ∑ r : Fin 1408, x (ix3 b (0 : Fin 1) (kx r)) * (FloatOps.uitofp (F := Ideal) FTy.bf16
        (IntOp.andi (IntOp.shrui ArithUnit.host (BitVec.setWidth 32 (w (ix2 r n))) (BitVec.ofNat 32 (2 * f.val))) 3#32) * s (ix2 (g r) n) + mn (ix2 (g r) n))
      = ∑ r : Fin 1408, x (ix3 b (0 : Fin 1) (⟨1408 * f.val + r.val, by omega⟩ : Fin 5632)) * weight w s mn ⟨1408 * f.val + r.val, by omega⟩ n := by
  refine Finset.sum_congr rfl fun r _ => ?_
  have hr := r.isLt
  have e0 : kx r = ⟨1408 * f.val + r.val, by omega⟩ := Fin.ext (hk r)
  have e1 : ∀ h, (⟨(1408 * f.val + r.val) % 1408, h⟩ : Fin 1408) = r := fun h => Fin.ext (by
    show (1408 * f.val + r.val) % 1408 = r.val; omega)
  have e2 : (1408 * f.val + r.val) / 1408 = f.val := by omega
  have e3 : ∀ h, (⟨(1408 * f.val + r.val) / 16, h⟩ : Fin 352) = g r := fun h => Fin.ext (by
    rw [hg]; show (1408 * f.val + r.val) / 16 = 88 * f.val + r.val / 16; omega)
  unfold weight
  dsimp only
  rw [e0, host_field, e1, e2, e3]

/-- The reference holds the linear layer. -/
theorem result_apply (x : FVec Ideal S192x1x5632 .bf16) (w : IVec S1408x8192 8) (s mn : FVec Ideal S352x8192 .bf16) (b : Fin 192) (n : Fin 8192) :
    result x w s mn (ix2 b n) = linear x w s mn b n := by
  pointwise [result]
  unfold linear
  rw [sum_runs 4 1408 5632 rfl, Fin.sum_univ_four]
  refine congrArg₂ (· + ·) (congrArg₂ (· + ·) (congrArg₂ (· + ·) ?_ ?_) ?_) ?_
  · exact run_apply x w s mn b n 0 (fun r => ⟨r.val, by omega⟩) (fun r => ⟨r.val / 16, by omega⟩) (fun r => by show r.val = 1408 * 0 + r.val; omega)
      (fun r => by show r.val / 16 = 88 * 0 + r.val / 16; omega)
  · exact run_apply x w s mn b n 1 (fun r => ⟨1408 + r.val, by omega⟩) (fun r => ⟨88 + r.val / 16, by omega⟩) (fun r => rfl) (fun r => rfl)
  · exact run_apply x w s mn b n 2 (fun r => ⟨2816 + r.val, by omega⟩) (fun r => ⟨176 + r.val / 16, by omega⟩) (fun r => rfl) (fun r => rfl)
  · exact run_apply x w s mn b n 3 (fun r => ⟨4224 + r.val, by omega⟩) (fun r => ⟨264 + r.val / 16, by omega⟩) (fun r => rfl) (fun r => rfl)

end Cert.ReferenceIdeal.Value

end
-- ==== Proof.Value.lean ====
import proofs.«01_k».proof.Defs
import proofs.«01_k».proof.Proof.Result
import proofs.«01_k».proof.Proof.Ref

noncomputable section

namespace Cert.Proof

open Idealize.ShloMosaic Idealize.ShloMosaic.TcCoe Idealize.SL.Sem Idealize.ShloMosaic.Pointwise

/-- Over the extended reals the kernel and the reference, started on the same arguments, end with the same result and leave
    their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.ReferenceIdeal.Value.result (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)), ?_, ?_⟩
  · refine (θ_run _ _ _).mono (fun r h c => ⟨(h c).1.trans ?_, (h c).2⟩) (Cert.KernelIdeal.Value.run_blocks m g)
    exact Cert.KernelIdeal.Value.final m c _ fun b n => Cert.ReferenceIdeal.Value.result_apply _ _ _ _ b n
  · refine (θ_run _ _ _).mono (fun r h c => ⟨(h c).1.trans ?_, (h c).2⟩) (Cert.ReferenceIdeal.Value.run m' g')
    obtain ⟨h0, h1, h2, h3⟩ := hargs c
    rw [h0, h1, h2, h3]
    rfl

end Cert.Proof

end
-- ==== Proof.lean ====
import proofs.«01_k».proof.Proof.Frames
import proofs.«01_k».proof.Proof.Value

noncomputable section

namespace Cert.Proof

open Idealize.ShloMosaic Idealize.SL.Sem

/-- The claims of the certificate. -/
theorem claim : Cert.Claim :=
  ⟨Cert.Kernel.Gen.facts, Cert.KernelIdeal.Gen.facts, Cert.ReferenceIdeal.Gen.facts,
    kernel_frame, kernelIdeal_frame, referenceIdeal_frame, preserves, algebraic⟩

end Cert.Proof

end
